-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S4x512x1024, .f32⟩
  | .local _ .vmem, ⟨5, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192x1024, .f32⟩
  | .hbm, ⟨24, _⟩ => ⟨S4x8192x1024, .i1⟩
  | .hbm, ⟨25, _⟩ => ⟨S_, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.KernelSum.lean ====
/-
  What the kernel's result array holds after the run: each of the 4 sequences, with the table's row of the same number
  added to each of its rows. The grid has 16 points; point `t` reads the rows `512·t … 512·t + 511` of every sequence and
  of the table, adds them and writes the same rows of the result, so the 16 blocks tile the result.
-/
module

public import proofs.«01_k».proof.Proof.Gen.KernelIdeal.Value
public import Idealize.ShloMosaic.Lib.Pipeline.Value

@[expose] public section

noncomputable section

namespace Cert.KernelIdeal.SumValue

open Cert.KernelIdeal Cert.KernelIdeal.Gen Idealize.ShloMosaic Idealize.ShloMosaic.TcCoe Idealize.SL.Sem
open Idealize.ShloMosaic.Pipeline (Dat)

/-- The table's element that is added to element `i = (b, s, d)` of the sequences: `(s, d)`. -/
def tableIdx (i : S4x8192x1024.Idx) : S8192x1024.Idx :=
  fun a => match a with
    | ⟨0, _⟩ => ⟨(i 1).val, (i 1).isLt⟩
    | ⟨1, _⟩ => ⟨(i 2).val, (i 2).isLt⟩

variable {F : FTy → Type} [FloatOps F]

/-- The sum of the sequences `x` and the table `w`, element by element: `x[b, s, d] + w[s, d]`. -/
def embedSum (x : FVec F S4x8192x1024 .f32) (w : FVec F S8192x1024 .f32) : FVec F S4x8192x1024 .f32 :=
  fun i => FloatOps.addf (x i) (w (tableIdx i))

variable (m : (ℓ : Loc nD τ sig) → Buf (Elt F) ℓ) (ρ : Dev nD → PrngReg)

/-- The sum of device `c`'s two argument arrays. -/
abbrev total (c : Dev nD) : Buf (Elt F) ((c : Thread nD τ).loc main_v0) :=
  embedSum (m ((c : Thread nD τ).loc main_arg0)) (m ((c : Thread nD τ).loc main_arg1))

/-- Where point `t`'s block of the result lies: all sequences, 512 rows from row `512·t`, all columns. -/
theorem block_place : ∀ t : Fin cfg0.N,
    (win0_2.index t 0 * win0_2.size 0 = 0 ∧ win0_2.xsize (grid0.coords t) 0 = 4)
    ∧ (win0_2.index t 1 * win0_2.size 1 = t.val * 512 ∧ win0_2.xsize (grid0.coords t) 1 = 512)
    ∧ (win0_2.index t 2 * win0_2.size 2 = 0 ∧ win0_2.xsize (grid0.coords t) 2 = 1024) :=
  (by decide +kernel : ∀ t : Fin grid0.N, _)

theorem zeros3 : (![0, 0, 0] : Fin 3 → Nat) = fun _ => 0 := by decide
theorem zeros2 : (![0, 0] : Fin 2 → Nat) = fun _ => 0 := by decide

/-- Point `t` writes back block `t` of the sum: the element at `y` in the block is the sum of the elements at `y` of the
    two blocks read, and the three blocks start at the same row. -/
theorem flushed_eq (c : Dev nD) (t : Fin cfg0.N) :
    (dats m 0 c).flushed 2 t = (win0_2.blk t).view.read (Elt F) (total m c) := by
  rw [Value.flushed2]
  unfold out0_2
  rw [View.ld_unit_zero zeros3, View.ld_unit_zero zeros2]
  funext y
  refine (Value.canon2_eq _ _ y).trans ?_
  show FloatOps.addf (iblk m c 0 t (Value.ix2_0 y)) (iblk m c 1 t (Value.ix2_1 y))
    = FloatOps.addf (m ((c : Thread nD τ).loc main_arg0) _) (m ((c : Thread nD τ).loc main_arg1) _)
  refine congrArg₂ _ (congrArg (m ((c : Thread nD τ).loc main_arg0)) (funext fun a => Fin.ext ?_))
    (congrArg (m ((c : Thread nD τ).loc main_arg1)) (funext fun a => Fin.ext ?_))
  · match a with
    | ⟨0, _⟩ => rfl
    | ⟨1, _⟩ => rfl
    | ⟨2, _⟩ => rfl
  · match a with
    | ⟨0, _⟩ => rfl
    | ⟨1, _⟩ => rfl

/-- An element of the result lies in point `t`'s block when its row does. -/
theorem mem_block (t : Fin cfg0.N) (i : S4x8192x1024.Idx) (h : t.val * 512 ≤ (i 1).val) (h' : (i 1).val < t.val * 512 + 512) :
    i ∈ ((cfg0.win 2).blk t).view.set := by
  show i ∈ ((View.whole main_v0).slice (win0_2.rect t)).set
  rw [View.set_slice_whole, Rect.mem_set_unit]
  have h0 : (i 0).val < 4 := (i 0).isLt
  have h2 : (i 2).val < 1024 := (i 2).isLt
  obtain ⟨⟨o0, s0⟩, ⟨o1, s1⟩, ⟨o2, s2⟩⟩ := block_place t
  intro a
  match a with
  | ⟨0, _⟩ =>
    show win0_2.index t 0 * win0_2.size 0 ≤ (i 0).val ∧ (i 0).val < win0_2.index t 0 * win0_2.size 0 + win0_2.xsize (grid0.coords t) 0
    omega
  | ⟨1, _⟩ =>
    show win0_2.index t 1 * win0_2.size 1 ≤ (i 1).val ∧ (i 1).val < win0_2.index t 1 * win0_2.size 1 + win0_2.xsize (grid0.coords t) 1
    omega
  | ⟨2, _⟩ =>
    show win0_2.index t 2 * win0_2.size 2 ≤ (i 2).val ∧ (i 2).val < win0_2.index t 2 * win0_2.size 2 + win0_2.xsize (grid0.coords t) 2
    omega

/-- The 16 blocks cover the result: row `s` is in the block of point `s / 512`. -/
theorem cover (i : S4x8192x1024.Idx) :
    ∃ t : Fin cfg0.N, (cfg0.win 2).flush t = true ∧ i ∈ ((cfg0.win 2).blk t).view.set := by
  have h1 : (i 1).val < 8192 := (i 1).isLt
  have hN : cfg0.N = 16 := N_0
  refine ⟨⟨(i 1).val / 512, by omega⟩, flush0_2 _, mem_block _ i ?_ ?_⟩
  · show (i 1).val / 512 * 512 ≤ (i 1).val
    omega
  · show (i 1).val < (i 1).val / 512 * 512 + 512
    omega

/-- After all points the result array holds the sum. -/
theorem final (c : Dev nD) : (dats m 0 c).arrAt 2 cfg0.N = total m c :=
  (dats m 0 c).arrAt_eq_of_cover 2 (total m c) (fun t _ => flushed_eq m c t) cover

/-- The kernel's run: it ends with the sum in the result array and the arguments unchanged. -/
theorem run : θ_run defs (onTc (τ := τ) (main (F := F))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.SumValue

end
-- ==== Proof.ReferenceSum.lean ====
/-
  What the reference computes. It takes the table's rows at the positions `0 … 8191`, the same for each of the 4 sequences
  (`jnp.take`: negative positions wrapped, positions outside the table replaced by NaN), and adds them to the sequences.
  The word of row `s` is `s`: it is neither negative nor outside the table, so no wrap and no NaN is selected, and the
  row that the gather reads for it is row `s`.
-/
module

public import proofs.«01_k».proof.Proof.Gen.ReferenceIdeal.Run
public import Idealize.ShloMosaic.Lib.ReduceAll
public import Idealize.ShloMosaic.Lib.Pointwise.Index

@[expose] public section

noncomputable section

namespace Cert.ReferenceIdeal.SumValue

open Cert.ReferenceIdeal Cert.ReferenceIdeal.Gen Idealize.ShloMosaic Idealize.ShloMosaic.TcCoe Idealize.SL.Sem

variable {F : FTy → Type} [FloatOps F]

/-- The table's element at the row and column of `i = (b, s, d)`: `(s, d)`. -/
def tableIdx (i : S4x8192x1024.Idx) : S8192x1024.Idx := ix2 ⟨(i 1).val, (i 1).isLt⟩ ⟨(i 2).val, (i 2).isLt⟩

/-- The positions of the reference: `0 … 8191` for each of the 4 sequences. -/
abbrev positions : IVec S4x8192 32 :=
  broadcastInDim S4x8192 ![0, 1] bcast_S1x8192_S4x8192_0_1 (broadcastInDim S1x8192 ![1] bcast_S8192_S1x8192_1 (iotaInDim S8192 32 0))

/-- The positions that the gather takes: a negative one has the table's length added. -/
abbrev wrapped : IVec S4x8192x1 32 :=
  broadcastInDim S4x8192x1 ![0, 1] bcast_S4x8192_S4x8192x1_0_1
    (select (cmpi .slt positions (broadcastInDim S4x8192 ![] bcast_S_S4x8192 (constantI S_ 32 0#32)))
      (addi positions (broadcastInDim S4x8192 ![] bcast_S_S4x8192 (constantI S_ 32 8192#32))) positions)

/-- A word below 8192 is not negative, and signed it is the number itself. -/
theorem toInt_word {s : Nat} (hs : s < 8192) : (BitVec.ofNat 32 s).toInt = (s : Int) := by
  rw [BitVec.toInt_eq_toNat_of_lt (by rw [BitVec.toNat_ofNat]; omega), BitVec.toNat_ofNat]
  omega

/-- The wrapped position of row `s` is `s`. -/
theorem wrapped_apply (j : S4x8192x1.Idx) : wrapped j = BitVec.ofNat 32 (j 1).val := by
  have hs : (j 1).val < 8192 := (j 1).isLt
  show Scalar.select (BitVec.ofBool ((BitVec.ofNat 32 (j 1).val).slt 0#32)) _ (BitVec.ofNat 32 (j 1).val) = _
  rw [show (BitVec.ofNat 32 (j 1).val).slt 0#32 = false by
    rw [BitVec.slt, toInt_word hs]
    exact decide_eq_false (by rw [BitVec.toInt_zero]; omega)]
  rfl

/-- Every position is inside the table: the test that `jnp.take` makes holds everywhere. -/
theorem inside (j : S4x8192.Idx) :
    Host.reduce IntOp.andi
      (andi (cmpi .sge wrapped (broadcastInDim S4x8192x1 ![] bcast_S_S4x8192x1 (constantI S_ 32 0#32)))
        (cmpi .sle wrapped (broadcastInDim S4x8192x1 ![0, 1, 2] bcast_S1x1x1_S4x8192x1_0_1_2
          (broadcastInDim S1x1x1 ![2] bcast_S1_S1x1x1_2 (constantI S1 32 8191#32)))))
      (constantI S_ 1 1#1) reducesTo_S4x8192x1_S4x8192_d2 h_S_ j = 1#1 := by
  refine Host.reduce_andi_one _ _ _ _ j rfl fun k => ?_
  have hs : (k 1).val < 8192 := (k 1).isLt
  show IntOp.andi (BitVec.ofBool ((0#32).sle (wrapped k))) (BitVec.ofBool ((wrapped k).sle 8191#32)) = 1#1
  rw [wrapped_apply,
    show (0#32).sle (BitVec.ofNat 32 (k 1).val) = true by
      rw [BitVec.sle, toInt_word hs]
      exact decide_eq_true (by rw [BitVec.toInt_zero]; omega),
    show (BitVec.ofNat 32 (k 1).val).sle 8191#32 = true by
      rw [BitVec.sle, toInt_word hs]
      exact decide_eq_true (by rw [show (8191#32).toInt = 8191 by decide]; omega)]
  rfl

/-- The gather at `(b, s, d)` reads the table at `(s, d)`. -/
theorem gather_apply {α : Type} (w : S8192x1024.Idx → α) (i : S4x8192x1024.Idx) :
    Host.gather gather_S8192x1024_S4x8192x1_S4x8192x1024_2_0_n_n_0_2_11024 w wrapped i = w (tableIdx i) := by
  have hs : (i 1).val < 8192 := (i 1).isLt
  unfold Host.gather
  refine congrArg w (funext fun a => Fin.ext ?_)
  match a with
  | ⟨0, _⟩ =>
    -- the row: the start index alone, since the axis is collapsed
    show GatherDims.start _ i wrapped 0 + GatherDims.batchCoord _ i 0 + GatherDims.offCoord _ i 0 = (i 1).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S8192x1024_S4x8192x1_S4x8192x1024_2_0_n_n_0_2_11024.startIndexMap from
      List.mem_singleton.mpr rfl), wrapped_apply]
    show min (BitVec.ofNat 32 (i 1).val).toInt.toNat 8191 + 0 + 0 = (i 1).val
    rw [toInt_word hs]
    omega
  | ⟨1, _⟩ =>
    -- the column: the offset alone, since the start index has no entry for the axis
    show GatherDims.start _ i wrapped 1 + GatherDims.batchCoord _ i 1 + GatherDims.offCoord _ i 1 = (i 2).val
    rw [GatherDims.batchCoord_eq_zero _ _ _ List.not_mem_nil]
    unfold GatherDims.start
    rw [dif_neg (show (1 : Fin 2) ∉ gather_S8192x1024_S4x8192x1_S4x8192x1024_2_0_n_n_0_2_11024.startIndexMap from by
      show (1 : Fin 2) ∉ [(0 : Fin 2)]; decide), Nat.zero_add]
    rfl

variable (m : (ℓ : Loc nD τ sig) → Buf (Elt F) ℓ) (ρ : Dev nD → PrngReg)

/-- The reference's run: element `(b, s, d)` of the result is `x[b, s, d] + w[s, d]`, and the arguments are unchanged. -/
theorem run : θ_run defs (onTc (τ := τ) (main (F := F))) ⟨m, fun _ => 0, ρ⟩ fun r => ∀ c : Dev nD,
      (r.2.mem ((c.tc : Thread nD τ).loc main_v4) = fun i : S4x8192x1024.Idx =>
        FloatOps.addf (m ((c.tc : Thread nD τ).loc main_arg0) i) (m ((c.tc : Thread nD τ).loc main_arg1) (tableIdx i)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  rw [funext inside, funext (gather_apply (m ((c.tc : Thread nD τ).loc main_arg1)))]
  -- the test holds at every element, so the gathered value is selected
  refine funext fun i => congrArg (FloatOps.addf (m ((c.tc : Thread nD τ).loc main_arg0) i)) ?_
  show Scalar.select 1#1 _ _ = _
  exact if_pos rfl

end Cert.ReferenceIdeal.SumValue

end
-- ==== Proof.lean ====
/-
  The kernel adds a table of position embeddings to a batch of sequences, and its result is the reference's over the
  extended reals. The kernel's value is in Proof/KernelSum.lean, the reference's in Proof/ReferenceSum.lean; both are
  `x[b, s, d] + w[s, d]`. The frames of the two kernels are generated, the reference's is read off its run.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelSum
public import proofs.«01_k».proof.Proof.ReferenceSum
public import Idealize.ShloMosaic.Lib.Quiescent

@[expose] public section

noncomputable section

namespace Cert.Proof

open Idealize.ShloMosaic Idealize.SL.Sem

/-- The reference's frame: its run read at the arguments; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.SumValue.run (F := Ideal) m ρ)

/-- The kernel and the reference end with equal results: both hold `x[b, s, d] + w[s, d]` of arguments that agree. -/
theorem algebraic : Cert.algebraic_KernelIdeal_ReferenceIdeal := by
  intro m ρ m' ρ' _ hagree
  refine ⟨fun c => Cert.KernelIdeal.SumValue.total m c, Cert.KernelIdeal.SumValue.run (F := Ideal) m ρ, ?_⟩
  refine (θ_run Cert.ReferenceIdeal.defs _ _).mono (fun _ h c => ⟨(h c).1.trans ?_, (h c).2⟩)
    (Cert.ReferenceIdeal.SumValue.run (F := Ideal) m' ρ')
  rw [(hagree c).1, (hagree c).2]
  refine funext fun i => congrArg (FloatOps.addf _) (congrArg (m _) (funext fun a => ?_))
  match a with
  | ⟨0, _⟩ => rfl
  | ⟨1, _⟩ => rfl

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
